-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "sqrt_2_over_pi" .f32 0x3F4C422A#32 ((Real.sqrt (2 * Real.pi⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x2048 : Shape := ⟨3, ![4, 2048, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S8x2048 : Shape := ⟨2, ![8, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S4x2048x2048 .f32) (main_arg1 : FVec F S8192x2048 .f32) (main_arg2 : FVec F S8192 .f32) (main_arg3 : FVec F S2048x8192 .f32) (main_arg4 : FVec F S2048 .f32) (main_arg5 : FVec F S8x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8x2048 .f32 := Host.absf main_arg5
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  main_v8
-- ==== Kernel.lean ====
abbrev S4x2048x2048 : Shape := ⟨3, ![4, 2048, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S8x2048 : Shape := ⟨2, ![8, 2048]⟩
abbrev S1x8192 : Shape := ⟨2, ![1, 8192]⟩
abbrev S1x2048 : Shape := ⟨2, ![1, 2048]⟩
abbrev S1024x2048 : Shape := ⟨2, ![1024, 2048]⟩
abbrev S512x2048 : Shape := ⟨2, ![512, 2048]⟩
abbrev S1x512 : Shape := ⟨2, ![1, 512]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S2048x8192, .f32⟩
  | .hbm, ⟨4, _⟩ => ⟨S2048, .f32⟩
  | .hbm, ⟨5, _⟩ => ⟨S8x2048, .f32⟩
  | .hbm, ⟨6, _⟩ => ⟨S8192x2048, .f32⟩
  | .hbm, ⟨7, _⟩ => ⟨S1x8192, .f32⟩
  | .hbm, ⟨8, _⟩ => ⟨S1x2048, .f32⟩
  | .hbm, ⟨9, _⟩ => ⟨S8192x2048, .f32⟩
  | .hbm, ⟨10, _⟩ => ⟨S4x2048x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "sqrt_2_over_pi" => some ((Real.sqrt (2 * Real.pi⁻¹) : ℝ) : EReal)
  | _ => none
-- ==== ReferenceIdeal.lean ====
abbrev S4x2048x2048 : Shape := ⟨3, ![4, 2048, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S8x2048 : Shape := ⟨2, ![8, 2048]⟩
abbrev S2048x8 : Shape := ⟨2, ![2048, 8]⟩
abbrev S8192x8 : Shape := ⟨2, ![8192, 8]⟩
abbrev S8192x2 : Shape := ⟨2, ![8192, 2]⟩
abbrev S_ : Shape := ⟨0, ![]⟩
abbrev S8192x1 : Shape := ⟨2, ![8192, 1]⟩
abbrev S16384 : Shape := ⟨1, ![16384]⟩
abbrev S16384x1 : Shape := ⟨2, ![16384, 1]⟩
abbrev S16384x2048 : Shape := ⟨2, ![16384, 2048]⟩
abbrev S16384x8192 : Shape := ⟨2, ![16384, 8192]⟩
abbrev S1x8192 : Shape := ⟨2, ![1, 8192]⟩
abbrev S1x2048 : Shape := ⟨2, ![1, 2048]⟩

abbrev nBuf : Space → Nat
  | .hbm => 108
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S2048x8192, .f32⟩
  | .hbm, ⟨4, _⟩ => ⟨S2048, .f32⟩
  | .hbm, ⟨5, _⟩ => ⟨S8x2048, .f32⟩
  | .hbm, ⟨6, _⟩ => ⟨S8192x2048, .f32⟩
  | .hbm, ⟨7, _⟩ => ⟨S2048x8, .f32⟩
  | .hbm, ⟨8, _⟩ => ⟨S8192x8, .f32⟩
  | .hbm, ⟨9, _⟩ => ⟨S8192x2, .f32⟩
  | .hbm, ⟨10, _⟩ => ⟨S8192x2, .i32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S8192x2, .f32⟩
  | .hbm, ⟨18, _⟩ => ⟨S8192x2, .f32⟩
  | .hbm, ⟨19, _⟩ => ⟨S8192x2, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x2, .f32⟩
  | .hbm, ⟨24, _⟩ => ⟨S8192x2, .f32⟩
  | .hbm, ⟨25, _⟩ => ⟨S8192, .i32⟩
  | .hbm, ⟨26, _⟩ => ⟨S8192x2, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S16384, .i32⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S16384x1, .i32⟩
  | .hbm, ⟨49, _⟩ => ⟨S16384x2048, .f32⟩
  | .hbm, ⟨50, _⟩ => ⟨S16384x1, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S16384x1, .f32⟩
  | .hbm, ⟨60, _⟩ => ⟨S2048x8192, .f32⟩
  | .hbm, ⟨61, _⟩ => ⟨S16384x8192, .f32⟩
  | .hbm, ⟨62, _⟩ => ⟨S1x8192, .f32⟩
  | .hbm, ⟨63, _⟩ => ⟨S16384x8192, .f32⟩
  | .hbm, ⟨64, _⟩ => ⟨S16384x8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S16384x8192, .f32⟩
  | .hbm, ⟨71, _⟩ => ⟨S16384x8192, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S16384x8192, .f32⟩
  | .hbm, ⟨77, _⟩ => ⟨S16384x8192, .f32⟩
  | .hbm, ⟨78, _⟩ => ⟨S16384x8192, .f32⟩
  | .hbm, ⟨79, _⟩ => ⟨S16384x8192, .f32⟩
  | .hbm, ⟨80, _⟩ => ⟨S16384x8192, .f32⟩
  | .hbm, ⟨81, _⟩ => ⟨S_, .f32⟩
  | .hbm, ⟨82, _⟩ => ⟨S16384x8192, .f32⟩
  | .hbm, ⟨83, _⟩ => ⟨S16384x8192, .f32⟩
  | .hbm, ⟨84, _⟩ => ⟨S16384x8192, .f32⟩
  | .hbm, ⟨85, _⟩ => ⟨S_, .f32⟩
  | .hbm, ⟨86, _⟩ => ⟨S16384x8192, .f32⟩
  | .hbm, ⟨87, _⟩ => ⟨S16384x8192, .f32⟩
  | .hbm, ⟨88, _⟩ => ⟨S16384x8192, .f32⟩
  | .hbm, ⟨89, _⟩ => ⟨S8192x2048, .f32⟩
  | .hbm, ⟨90, _⟩ => ⟨S16384x2048, .f32⟩
  | .hbm, ⟨91, _⟩ => ⟨S1x2048, .f32⟩
  | .hbm, ⟨92, _⟩ => ⟨S16384x2048, .f32⟩
  | .hbm, ⟨93, _⟩ => ⟨S16384x2048, .f32⟩
  | .hbm, ⟨94, _⟩ => ⟨S16384x2048, .f32⟩
  | .hbm, ⟨95, _⟩ => ⟨S16384x2048, .f32⟩
  | .hbm, ⟨96, _⟩ => ⟨S_, .f32⟩
  | .hbm, ⟨97, _⟩ => ⟨S8192x2048, .f32⟩
  | .hbm, ⟨98, _⟩ => ⟨S_, .i32⟩
  | .hbm, ⟨99, _⟩ => ⟨S16384, .i32⟩
  | .hbm, ⟨100, _⟩ => ⟨S16384, .i1⟩
  | .hbm, ⟨101, _⟩ => ⟨S_, .i32⟩
  | .hbm, ⟨102, _⟩ => ⟨S16384, .i32⟩
  | .hbm, ⟨103, _⟩ => ⟨S16384, .i32⟩
  | .hbm, ⟨104, _⟩ => ⟨S16384, .i32⟩
  | .hbm, ⟨105, _⟩ => ⟨S16384x1, .i32⟩
  | .hbm, ⟨106, _⟩ => ⟨S8192x2048, .f32⟩
  | .hbm, ⟨107, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1_0 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_c_14 : Ref sig .tc := ⟨.hbm, 98, rfl⟩
abbrev main_v72 : Ref sig .tc := ⟨.hbm, 99, rfl⟩
abbrev main_v73 : Ref sig .tc := ⟨.hbm, 100, rfl⟩
abbrev main_c_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Proof.KernelBody.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The block of hidden activations one grid point makes: its tokens against its 512 hidden units. -/
def hid (x0 : Vec F S1024x2048 .f32) (x1 : Vec F S512x2048 .f32) (x2 : Vec F S1x512 .f32) : FVec F S1024x512 .f32 :=
  k0_pay1 (View.ld x0 (Rect.unit ![0, 0] S1024x2048.size inb_S1024x2048_S1024x2048_0_0))
    (View.ld x1 (Rect.unit ![0, 0] S512x2048.size inb_S512x2048_S512x2048_0_0))
    (View.ld x2 (Rect.unit ![0, 0] S1x512.size inb_S1x512_S1x512_0_0))

/-- What the body leaves in the output block, from the input blocks and what the output block held: four column
    chunks, each the chunk's old contents (or the bias where the hidden axis begins) plus its product. -/
def bodyOut (i : grid0.Coords) (x0 : Vec F S1024x2048 .f32) (x1 : Vec F S512x2048 .f32) (x2 : Vec F S1x512 .f32) (x3 : Vec F S2048x512 .f32) (x4 : Vec F S1x2048 .f32) (d : Vec F S1024x2048 .f32) : Vec F S1024x2048 .f32 :=
  View.canon (Val := Elt F) (e := .f32)
    [⟨Rect.unit ![0, 1536] S1024x512.size inb_S1024x2048_S1024x512_0_1536, k0_pay5 (hid x0 x1 x2) (Scalar.cmpi .eq (BitVec.ofNat 32 (i 1).val) 0#32)
        (View.ld x3 (Rect.unit ![1536, 0] S512x512.size inb_S2048x512_S512x512_1536_0))
        (View.ld x4 (Rect.unit ![0, 1536] S1x512.size inb_S1x2048_S1x512_0_1536))
        (View.ld d (Rect.unit ![0, 1536] S1024x512.size inb_S1024x2048_S1024x512_0_1536))⟩,
     ⟨Rect.unit ![0, 1024] S1024x512.size inb_S1024x2048_S1024x512_0_1024, k0_pay4 (hid x0 x1 x2) (Scalar.cmpi .eq (BitVec.ofNat 32 (i 1).val) 0#32)
        (View.ld x3 (Rect.unit ![1024, 0] S512x512.size inb_S2048x512_S512x512_1024_0))
        (View.ld x4 (Rect.unit ![0, 1024] S1x512.size inb_S1x2048_S1x512_0_1024))
        (View.ld d (Rect.unit ![0, 1024] S1024x512.size inb_S1024x2048_S1024x512_0_1024))⟩,
     ⟨Rect.unit ![0, 512] S1024x512.size inb_S1024x2048_S1024x512_0_512, k0_pay3 (hid x0 x1 x2) (Scalar.cmpi .eq (BitVec.ofNat 32 (i 1).val) 0#32)
        (View.ld x3 (Rect.unit ![512, 0] S512x512.size inb_S2048x512_S512x512_512_0))
        (View.ld x4 (Rect.unit ![0, 512] S1x512.size inb_S1x2048_S1x512_0_512))
        (View.ld d (Rect.unit ![0, 512] S1024x512.size inb_S1024x2048_S1024x512_0_512))⟩,
     ⟨Rect.unit ![0, 0] S1024x512.size inb_S1024x2048_S1024x512_0_0, k0_pay2 i
        (View.ld x0 (Rect.unit ![0, 0] S1024x2048.size inb_S1024x2048_S1024x2048_0_0))
        (View.ld x1 (Rect.unit ![0, 0] S512x2048.size inb_S512x2048_S512x2048_0_0))
        (View.ld x2 (Rect.unit ![0, 0] S1x512.size inb_S1x512_S1x512_0_0))
        (View.ld x3 (Rect.unit ![0, 0] S512x512.size inb_S2048x512_S512x512_0_0))
        (View.ld x4 (Rect.unit ![0, 0] S1x512.size inb_S1x2048_S1x512_0_0))
        (View.ld d (Rect.unit ![0, 0] S1024x512.size inb_S1024x2048_S1024x512_0_0))⟩]

set_option maxHeartbeats 2000000 in
theorem body_run (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S1x2048 .f32) (harg6 : arg6.IsWhole) (arg7 : Memref sig .tc .vmem S1024x2048 .f32) (harg7 : arg7.IsWhole)
    (x0 : Vec F S1024x2048 .f32) (x1 : Vec F S512x2048 .f32) (x2 : Vec F S1x512 .f32) (x3 : Vec F S2048x512 .f32) (x4 : Vec F S1x2048 .f32) (d : Vec F S1024x2048 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (bodyOut i x0 x1 x2 x3 x4 d)) -∗ K ⟨⟩))
          ⊢ wp frame (wpE (defs₀ (F := F)) Variants.none c none) E (cc0__mlp_body i arg2 harg2 arg3 harg3 arg4 harg4 arg5 harg5 arg6 harg6 arg7 harg7) K := by
    simp only [cc0__mlp_body_eq_skeleton]; unfold cc0__mlp_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; swap; · iexact H5
    ipureintro
    refine (View.read_writes_eq_canon _ _ _ ?_).trans ?_
    · intro y; exact View.cover_of_tiled (s := S1024x2048) _ ![1024, 512] (by rfl) y
    have e0 : ∀ r : Rect S1024x2048, View.readAt (Elt F) arg2.view r.toLoadRect (harg2.unread x0) = View.ld x0 r := fun r => by rw [View.readAt_eq_ld, hf0]
    have e1 : ∀ r : Rect S512x2048, View.readAt (Elt F) arg3.view r.toLoadRect (harg3.unread x1) = View.ld x1 r := fun r => by rw [View.readAt_eq_ld, hf1]
    have e2 : ∀ r : Rect S1x512, View.readAt (Elt F) arg4.view r.toLoadRect (harg4.unread x2) = View.ld x2 r := fun r => by rw [View.readAt_eq_ld, hf2]
    have e3 : ∀ r : Rect S2048x512, View.readAt (Elt F) arg5.view r.toLoadRect (harg5.unread x3) = View.ld x3 r := fun r => by rw [View.readAt_eq_ld, hf3]
    have e4 : ∀ r : Rect S1x2048, View.readAt (Elt F) arg6.view r.toLoadRect (harg6.unread x4) = View.ld x4 r := fun r => by rw [View.readAt_eq_ld, hf4]
    have e5 : ∀ r : Rect S1024x2048, View.readAt (Elt F) arg7.view r.toLoadRect (harg7.unread d) = View.ld d r := fun r => by rw [View.readAt_eq_ld, hf5]
    have hr : body_run.sl.r c arg2 harg2 arg3 harg3 arg4 harg4 x0 x1 x2 = hid x0 x1 x2 := by
      unfold body_run.sl.r hid; rw [← e0, ← e1, ← e2]
    have hr1 : body_run.sl.r_1 c arg5 harg5 x3 = View.ld x3 (Rect.unit ![512, 0] S512x512.size inb_S2048x512_S512x512_512_0) := by
      unfold body_run.sl.r_1; rw [← e3]
    have h61 : body_run.sl.v61 c arg7 harg7 d = View.ld d (Rect.unit ![0, 1536] S1024x512.size inb_S1024x2048_S1024x512_0_1536) := by
      unfold body_run.sl.v61; rw [← e5]
    have h50 : body_run.sl.v50 c arg7 harg7 d = View.ld d (Rect.unit ![0, 1024] S1024x512.size inb_S1024x2048_S1024x512_0_1024) := by
      unfold body_run.sl.v50; rw [← e5]
    have h39 : body_run.sl.v39 c arg7 harg7 d = View.ld d (Rect.unit ![0, 512] S1024x512.size inb_S1024x2048_S1024x512_0_512) := by
      unfold body_run.sl.v39; rw [← e5]
    have h21 : body_run.sl.v21 i = Scalar.cmpi .eq (BitVec.ofNat 32 (i 1).val) 0#32 := by
      unfold body_run.sl.v21; rfl
    rw [hr, hr1, h61, h50, h39, h21, e0, e1, e2, e3, e3, e3, e4, e4, e4, e4, e5]
    unfold bodyOut
    rfl

end Cert.KernelIdeal.Hand

end
-- ==== Proof.KernelRun.lean ====
module

public import proofs.«01_k».proof.Proof.KernelBody
public import proofs.«01_k».proof.Proof.Gen.KernelIdeal.Points
public import proofs.«01_k».proof.Proof.Gen.KernelIdeal.Launch
public import Idealize.ShloMosaic.Lib.Pipeline.Value
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first chunk's payload is the second's at its own loads. -/
theorem pay2_eq (i : grid0.Coords) (v0 : Vec F S1024x2048 .f32) (v2 : Vec F S512x2048 .f32) (v4 : Vec F S1x512 .f32) (a : Vec F S512x512 .f32)
    (b : Vec F S1x512 .f32) (x : Vec F S1024x512 .f32) :
    k0_pay2 i v0 v2 v4 a b x = k0_pay3 (k0_pay1 v0 v2 v4) (Scalar.cmpi .eq (BitVec.ofNat 32 (i 1).val) 0#32) a b x := rfl

/-- Where the hidden axis begins the body does not read what the output block held. -/
theorem bodyOut_start (i : grid0.Coords) (hi : (i 1).val = 0) (x0 : Vec F S1024x2048 .f32) (x1 : Vec F S512x2048 .f32) (x2 : Vec F S1x512 .f32)
    (x3 : Vec F S2048x512 .f32) (x4 : Vec F S1x2048 .f32) (d d' : Vec F S1024x2048 .f32) :
    bodyOut i x0 x1 x2 x3 x4 d = bodyOut i x0 x1 x2 x3 x4 d' := by
  have hc : Scalar.cmpi .eq (BitVec.ofNat 32 (i 1).val) 0#32 = 1#1 := by rw [hi]; decide
  have h5 : ∀ v a b (x y : Vec F S1024x512 .f32), k0_pay5 v (Scalar.cmpi .eq (BitVec.ofNat 32 (i 1).val) 0#32) a b x
      = k0_pay5 v (Scalar.cmpi .eq (BitVec.ofNat 32 (i 1).val) 0#32) a b y := fun _ _ _ _ _ => by rw [hc]; rfl
  have h4 : ∀ v a b (x y : Vec F S1024x512 .f32), k0_pay4 v (Scalar.cmpi .eq (BitVec.ofNat 32 (i 1).val) 0#32) a b x
      = k0_pay4 v (Scalar.cmpi .eq (BitVec.ofNat 32 (i 1).val) 0#32) a b y := fun _ _ _ _ _ => by rw [hc]; rfl
  have h3 : ∀ v a b (x y : Vec F S1024x512 .f32), k0_pay3 v (Scalar.cmpi .eq (BitVec.ofNat 32 (i 1).val) 0#32) a b x
      = k0_pay3 v (Scalar.cmpi .eq (BitVec.ofNat 32 (i 1).val) 0#32) a b y := fun _ _ _ _ _ => by rw [hc]; rfl
  have h2 : ∀ u v w a b (x y : Vec F S1024x512 .f32), k0_pay2 i u v w a b x = k0_pay2 i u v w a b y :=
    fun _ _ _ _ _ _ _ => by rw [pay2_eq, pay2_eq, hc]; rfl
  unfold bodyOut
  rw [h5 _ _ _ _ (View.ld d' (Rect.unit ![0, 1536] S1024x512.size inb_S1024x2048_S1024x512_0_1536)),
    h4 _ _ _ _ (View.ld d' (Rect.unit ![0, 1024] S1024x512.size inb_S1024x2048_S1024x512_0_1024)),
    h3 _ _ _ _ (View.ld d' (Rect.unit ![0, 512] S1024x512.size inb_S1024x2048_S1024x512_0_512)),
    h2 _ _ _ _ _ _ (View.ld d' (Rect.unit ![0, 0] S1024x512.size inb_S1024x2048_S1024x512_0_0))]

variable (m : (ℓ : Loc nD τ sig) → Buf (Elt F) ℓ) (ρ : Dev nD → PrngReg)

/-- What the body leaves in the output block at point `n` when the block held `d`. -/
def stepAt (c : Dev nD) (n : ℕ) (h : n < cfg0.N) (d : Vec F S1024x2048 .f32) : Vec F S1024x2048 .f32 :=
  bodyOut (grid0.coords ⟨n, h⟩) (iblk m c 0 ⟨n, h⟩) (iblk m c 1 ⟨n, h⟩) (iblk m c 2 ⟨n, h⟩) (iblk m c 3 ⟨n, h⟩) (iblk m c 4 ⟨n, h⟩) d

/-- What the output block holds after point `n`. -/
def outN (c : Dev nD) : (n : ℕ) → n < cfg0.N → Vec F S1024x2048 .f32
  | 0, h => stepAt m c 0 h (constant S1024x2048 .f32 0x00000000#32)
  | n + 1, h => stepAt m c (n + 1) h (outN c n (Nat.lt_of_succ_lt h))

/-- The second grid coordinate of a point. -/
theorem coord1 (t : Fin cfg0.N) : (grid0.coords t 1).val = t.val % 16 := by
  refine (Pipeline.Grid.coords_val (G := grid0) t 1 (S := 1) (B := 16) rfl rfl).trans ?_
  rw [Nat.div_one]

/-- At the points where the hidden axis begins, the step from any contents. -/
theorem outN_start (c : Dev nD) (n : ℕ) (h : n < cfg0.N) (hn : n % 16 = 0) (d : Vec F S1024x2048 .f32) :
    outN m c n h = stepAt m c n h d := by
  have hc : (grid0.coords ⟨n, h⟩ 1).val = 0 := (coord1 ⟨n, h⟩).trans hn
  cases n with
  | zero => exact bodyOut_start _ hc _ _ _ _ _ _ _
  | succ n => exact bodyOut_start _ hc _ _ _ _ _ _ _

/-- The proof data: inputs keep their blocks, the output block follows `outN`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outN m c t.val t.isLt
  Φ _ := Pipeline.ΦA spec0 c
  q _ := fullShare
  owed _ := 0

/-- The arrays the launch starts from. -/
theorem dats_A (c : Dev nD) (w : Fin cfg0.W) : (dats m 0 c).A w = V m c (Pipeline.arrRef spec0 w) := by dsimp only [dats]
/-- After a point the five input blocks are what they were and the output block holds `outN`. -/
theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = iblk m c 4 t := by dsimp only [dats]
theorem aft5 (c : Dev nD) (t : Fin cfg0.N) : (dats m 0 c).after 5 t = outN m c t.val t.isLt := by dsimp only [dats]

/-- Before a point each input window holds its block. -/
theorem bef0 (c : Dev nD) (t : Fin cfg0.N) (d) : (dats m 0 c).before 0 t d = iblk m c 0 t :=
  before0_0_of m (dats m 0 c) (dats_A m c 0) (aft0 m c) t d
theorem bef1 (c : Dev nD) (t : Fin cfg0.N) (d) : (dats m 0 c).before 1 t d = iblk m c 1 t :=
  before0_1_of m (dats m 0 c) (dats_A m c 1) (aft1 m c) t d
theorem bef2 (c : Dev nD) (t : Fin cfg0.N) (d) : (dats m 0 c).before 2 t d = iblk m c 2 t :=
  before0_2_of m (dats m 0 c) (dats_A m c 2) (aft2 m c) t d
theorem bef3 (c : Dev nD) (t : Fin cfg0.N) (d) : (dats m 0 c).before 3 t d = iblk m c 3 t :=
  before0_3_of m (dats m 0 c) (dats_A m c 3) (aft3 m c) t d
theorem bef4 (c : Dev nD) (t : Fin cfg0.N) (d) : (dats m 0 c).before 4 t d = iblk m c 4 t :=
  before0_4_of m (dats m 0 c) (dats_A m c 4) (aft4 m c) t d

/-- The body, run on what the output block holds before a point, leaves `outN` there: at the start of the hidden axis
    whatever it held, elsewhere because nothing moved the block since the point before. -/
theorem step_before (c : Dev nD) (t : Fin cfg0.N) (d) :
    stepAt m c t.val t.isLt ((dats m 0 c).before 5 t d) = outN m c t.val t.isLt := by
  by_cases h0 : t.val % 16 = 0
  · exact (outN_start m c t.val t.isLt h0 _).symm
  · obtain ⟨n, hn⟩ := t
    cases n with
    | zero => exact absurd rfl h0
    | succ n =>
      have hf : (cfg0.win 5).flush ⟨n, Nat.lt_of_succ_lt hn⟩ ≠ true := fun e => by
        have := (flush0_5 _).mp e
        dsimp only at this h0; omega
      have hb : (dats m 0 c).before 5 ⟨n + 1, hn⟩ d = outN m c n (Nat.lt_of_succ_lt hn) := by
        rw [(dats m 0 c).before_of_pos 5 ⟨n + 1, hn⟩ (Nat.succ_ne_zero n) ((cfg0.win 5).fetch_out rfl _) d]
        refine (if_neg hf).trans ?_
        exact aft5 m c ⟨n, Nat.lt_of_succ_lt hn⟩
      rw [hb]; rfl

/-- What the body is called with at a point, window by window. -/
def preAt (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it hands back. -/
def postAt (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- One point, from its windows before to its windows after. -/
theorem body_at (c : Dev nD) (t : Fin cfg0.N) :
    preAt m c t ⊢ wp frame (wpE (defs₀ (F := F)) Variants.none c none) Set.univ (bodyAt0 t) (fun _ => postAt m c t) := by
  unfold preAt postAt bodyAt0
  simp only [bef0, bef1, bef2, bef3, bef4]
  rw [show (dats m 0 c).Φ t.succ = (dats m 0 c).Φ t.castSucc from rfl,
    show (dats m 0 c).owesAt () t.succ = (dats m 0 c).owesAt () t.castSucc from rfl, aft0, aft1, aft2, aft3, aft4, aft5]
  iintro ⟨HΦ, Ho, ⟨%d0, H0⟩, ⟨%d1, H1⟩, ⟨%d2, H2⟩, ⟨%d3, H3⟩, ⟨%d4, H4⟩, ⟨%d5, H5⟩⟩
  rw [← step_before m c t d5]
  iapply (body_run c (grid0.coords t) _ _ _ _ _ _ _ _ _ _ _ _ (iblk m c 0 t) (iblk m c 1 t) (iblk m c 2 t) (iblk m c 3 t) (iblk m c 4 t) ((dats m 0 c).before 5 t d5) Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch runs the body at each point on that point's windows. -/
theorem row_body (t : Fin cfg0.N) : defs₀ (F := F) .tc cfg0.body (cfg0.bodyArgs t (cfg0.slots t)) = bodyAt0 t := by
  unfold defs₀; rw [Defs.onTc_tc]

/-- Every point's body does what the proof data says. -/
theorem obligation (c : Dev nD) : BodyObligation (dats (F := F) m 0 c) (defs₀ (F := F)) Variants.none () Set.univ := fun t => by
  rw [bigSep_W0, bigSep_W0, row_body]
  exact triple_restated (body_at m c t) rfl .rfl fun _ => .rfl

set_option backward.isDefEq.respectTransparency.types false in
set_option maxHeartbeats 800000 in
/-- The launch: every fair execution ends with the arrays as the proof data says and every counter at zero. -/
theorem launch : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The run, read at the arguments and the counters: the arguments unchanged, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (dats_A m) ((θ_run defs _ _).mono (fun _ h => h.1) (launch m ρ)))
    ((θ_run defs _ _).mono (fun _ h => h.2) (launch m ρ))

end Cert.KernelIdeal.Hand

end
-- ==== Proof.Spec.lean ====
module

public import Idealize.ShloMosaic.Lib.Pointwise.Tactic

@[expose] public section

noncomputable section

namespace Cert.Mlp

open Idealize.ShloMosaic

/-- The square root of 2/π as an extended real. -/
def gScale : EReal := ((Real.sqrt (2 * Real.pi⁻¹) : ℝ) : EReal)

/-- The tanh form of GELU over the extended reals. -/
def gelu (v : EReal) : EReal :=
  Ideal.ofBits .f32 0x3F000000#32 * v * (1 + Ideal.tanh (gScale * (v + Ideal.ofBits .f32 0x3D372713#32 * v * v * v)))

/-- One hidden activation: a token's row against hidden unit `k`. -/
def hidden (x : Fin 2048 → EReal) (W1 : (⟨2, ![8192, 2048]⟩ : Shape).Idx → EReal) (b1 : (⟨1, ![8192]⟩ : Shape).Idx → EReal) (k : Fin 8192) : EReal :=
  gelu (∑ q : Fin 2048, x q * W1 (ix2 k q) + b1 (ix1 k))

/-- The expert applied to one token's row, at output feature `o`. -/
def mlp (x : Fin 2048 → EReal) (W1 : (⟨2, ![8192, 2048]⟩ : Shape).Idx → EReal) (b1 : (⟨1, ![8192]⟩ : Shape).Idx → EReal)
    (W2 : (⟨2, ![2048, 8192]⟩ : Shape).Idx → EReal) (b2 : (⟨1, ![2048]⟩ : Shape).Idx → EReal) (o : Fin 2048) : EReal :=
  ∑ k : Fin 8192, hidden x W1 b1 k * W2 (ix2 o k) + b2 (ix1 o)

end Cert.Mlp

end
-- ==== Proof.KernelValue.lean ====
module

public import proofs.«01_k».proof.Proof.KernelRun
public import proofs.«01_k».proof.Proof.Spec
public import Idealize.ShloMosaic.Lib.Pipeline.ValueKit
public import Idealize.ShloMosaic.Lib.Pointwise.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- A hidden activation of a block at an index. -/
theorem hid_apply (x0 : Vec Ideal S1024x2048 .f32) (x1 : Vec Ideal S512x2048 .f32) (x2 : Vec Ideal S1x512 .f32) (r : Fin 1024) (k : Fin 512) :
    hid x0 x1 x2 (ix2 r k) = Cert.Mlp.gelu (∑ q : Fin 2048, x0 (ix2 r q) * x1 (ix2 k q) + x2 (ix2 0 k)) := by
  unfold hid
  pointwise [k0_pay1]
  rfl

/-- A select on a decided proposition is an if. -/
theorem select_dec {α : Type} (p : Prop) [Decidable p] (a b : α) : Scalar.select (BitVec.ofBool (decide p)) a b = if p then a else b := by
  by_cases h : p <;> simp only [h, decide_true, decide_false, if_true, if_false] <;> rfl

/-- A column chunk's new contents at an index: the base, the bias at the start and the old contents after it, plus the product. -/
theorem pay_apply (v : FVec Ideal S1024x512 .f32) (b : BitVec 1) (w : Vec Ideal S512x512 .f32) (bb : Vec Ideal S1x512 .f32) (d : Vec Ideal S1024x512 .f32) (x : S1024x512.Idx) :
    k0_pay3 v b w bb d x = Scalar.select b (bb (ix2 0 (x 1))) (d x) + ∑ k : Fin 512, v (ix2 (x 0) k) * w (ix2 (x 1) k) := by
  pointwise [k0_pay3]

/-- The chunks share one payload. -/
theorem pay5_eq {F : FTy → Type} [FloatOps F] [Named F] : k0_pay5 (F := F) = k0_pay3 := rfl
theorem pay4_eq {F : FTy → Type} [FloatOps F] [Named F] : k0_pay4 (F := F) = k0_pay3 := rfl

/-- The body's flag says whether the hidden axis begins. -/
theorem first_iff (i : grid0.Coords) : Scalar.cmpi .eq (BitVec.ofNat 32 (i 1).val) 0#32 = BitVec.ofBool (decide ((i 1).val = 0)) := by
  have h : (i 1).val < 16 := (i 1).isLt
  have : ∀ j : Fin 16, Scalar.cmpi .eq (BitVec.ofNat 32 j.val) 0#32 = BitVec.ofBool (decide (j.val = 0)) := by decide
  exact this ⟨_, h⟩

/-- What the body leaves in the output block, at an index: the four chunks are one product. -/
theorem out_apply (i : grid0.Coords) (x0 : Vec Ideal S1024x2048 .f32) (x1 : Vec Ideal S512x2048 .f32) (x2 : Vec Ideal S1x512 .f32)
    (x3 : Vec Ideal S2048x512 .f32) (x4 : Vec Ideal S1x2048 .f32) (d : Vec Ideal S1024x2048 .f32) (r : Fin 1024) (o : Fin 2048) :
    bodyOut i x0 x1 x2 x3 x4 d (ix2 r o) = (if (i 1).val = 0 then x4 (ix2 0 o) else d (ix2 r o)) + ∑ k : Fin 512, hid x0 x1 x2 (ix2 r k) * x3 (ix2 o k) := by
  unfold bodyOut
  canon_tiles x h
  all_goals
    first | rw [pay5_eq] | rw [pay4_eq] | rw [pay2_eq, show k0_pay1 _ _ _ = hid x0 x1 x2 from rfl] | skip
    rw [pay_apply, first_iff, select_dec]
    have e0 : r = x 0 := Fin.ext h0
    subst e0
    refine congrArg₂ (· + ·) (ite_congr rfl (fun _ => ?_) (fun _ => ?_)) (Finset.sum_congr rfl fun k _ => congrArg₂ (· * ·) rfl ?_)
    all_goals
      refine View.ld_unit_apply_of _ _ _ _ _ _ (fun a => ?_)
      revert a
      refine Fin.forall_fin_two.2 ⟨?_, ?_⟩
      all_goals first | exact h1 | exact (Nat.zero_add _).symm | exact h1.trans (Nat.zero_add _).symm | rfl

/-- Which block each window holds at a point. -/
theorem idx0 : ∀ t : Fin grid0.N, win0_0.index t = ![t.val / 16, 0] := by decide +kernel
theorem idx1 : ∀ t : Fin grid0.N, win0_1.index t = ![t.val % 16, 0] := by decide +kernel
theorem idx2 : ∀ t : Fin grid0.N, win0_2.index t = ![0, t.val % 16] := by decide +kernel
theorem idx3 : ∀ t : Fin grid0.N, win0_3.index t = ![0, t.val % 16] := by decide +kernel
theorem idx4 : ∀ t : Fin grid0.N, win0_4.index t = ![0, 0] := by decide +kernel
theorem idx5 : ∀ t : Fin grid0.N, win0_5.index t = ![t.val / 16, 0] := by decide +kernel

variable (m : (ℓ : Loc nD τ sig) → Buf (Elt Ideal) ℓ) (c : Dev nD)

abbrev argX : S4x2048x2048.Idx → EReal := m ((c : Thread nD τ).loc main_arg0)
abbrev argW1 : S8192x2048.Idx → EReal := m ((c : Thread nD τ).loc main_arg1)
abbrev argB1 : S8192.Idx → EReal := m ((c : Thread nD τ).loc main_arg2)
abbrev argW2 : S2048x8192.Idx → EReal := m ((c : Thread nD τ).loc main_arg3)
abbrev argB2 : S2048.Idx → EReal := m ((c : Thread nD τ).loc main_arg4)

/-- Row `T` of the tokens, the two leading axes of the input taken as one. -/
def rowX (T : Fin 8192) (q : Fin 2048) : EReal :=
  argX m c (ix3 (⟨T.val / 2048, by omega⟩ : Fin 4) (⟨T.val % 2048, by omega⟩ : Fin 2048) q)

/-- The token block at an index. -/
theorem blk0 (t : Fin cfg0.N) (r : Fin 1024) (q : Fin 2048) (T : Fin 8192) (hT : T.val = 1024 * (t.val / 16) + r.val) :
    iblk m c 0 t (ix2 r q) = rowX m c T q := by
  have e : ((cfg0.win 0).blk t).view.emb (ix2 r q) = ix2 T q := by blk_ext [idx0 t]
  show V m c main_v0 (((cfg0.win 0).blk t).view.emb (ix2 r q)) = argX m c _
  rw [e]
  simp only [V, V0, hostOps0, List.flatten_cons, List.flatten_nil, List.append_nil, List.cons_append, List.nil_append]
  entry_read
  pointwise

/-- The first layer's weight block at an index. -/
theorem blk1 (t : Fin cfg0.N) (k : Fin 512) (q : Fin 2048) (K : Fin 8192) (hK : K.val = 512 * (t.val % 16) + k.val) :
    iblk m c 1 t (ix2 k q) = argW1 m c (ix2 K q) := by
  blk_ext [iblk, V, idx1 t]

/-- The first layer's bias block at an index. -/
theorem blk2 (t : Fin cfg0.N) (k : Fin 512) (K : Fin 8192) (hK : K.val = 512 * (t.val % 16) + k.val) :
    iblk m c 2 t (ix2 0 k) = argB1 m c (ix1 K) := by
  have e : ((cfg0.win 2).blk t).view.emb (ix2 0 k) = ix2 0 K := by blk_ext [idx2 t]
  show V m c main_v1 (((cfg0.win 2).blk t).view.emb (ix2 0 k)) = _
  rw [e]
  simp only [V, V0, hostOps0, List.flatten_cons, List.flatten_nil, List.append_nil, List.cons_append, List.nil_append]
  entry_read
  pointwise

/-- The second layer's weight block at an index. -/
theorem blk3 (t : Fin cfg0.N) (o : Fin 2048) (k : Fin 512) (K : Fin 8192) (hK : K.val = 512 * (t.val % 16) + k.val) :
    iblk m c 3 t (ix2 o k) = argW2 m c (ix2 o K) := by
  blk_ext [iblk, V, idx3 t]

/-- The second layer's bias at an index. -/
theorem blk4 (t : Fin cfg0.N) (o : Fin 2048) :
    iblk m c 4 t (ix2 0 o) = argB2 m c (ix1 o) := by
  have e : ((cfg0.win 4).blk t).view.emb (ix2 0 o) = ix2 0 o := by blk_ext [idx4 t]
  show V m c main_v2 (((cfg0.win 4).blk t).view.emb (ix2 0 o)) = _
  rw [e]
  simp only [V, V0, hostOps0, List.flatten_cons, List.flatten_nil, List.append_nil, List.cons_append, List.nil_append]
  entry_read
  pointwise

/-- The token a row of a point's block is. -/
def tok (t : Fin cfg0.N) (r : Fin 1024) : Fin 8192 := ⟨1024 * (t.val / 16) + r.val, by have := t.isLt; have : cfg0.N = 128 := rfl; omega⟩

/-- The hidden unit a lane of a point's block is. -/
def unitOf (t : Fin cfg0.N) (k : Fin 512) : Fin 8192 := ⟨512 * (t.val % 16) + k.val, by omega⟩

/-- What one point adds to its output block. -/
def termAt (t : Fin cfg0.N) (y : S1024x2048.Idx) : EReal :=
  ∑ k : Fin 512, Cert.Mlp.hidden (rowX m c (tok t (y 0))) (argW1 m c) (argB1 m c) (unitOf t k) * argW2 m c (ix2 (y 1) (unitOf t k))

theorem ix2_eta' (y : S1024x2048.Idx) : y = ix2 (y 0) (y 1) :=
  funext (Fin.forall_fin_two.2 ⟨rfl, rfl⟩)

/-- One point's step at an index: it adds `termAt` to the bias or to what was there. -/
theorem step_apply (t : Fin cfg0.N) (d : Vec Ideal S1024x2048 .f32) (y : S1024x2048.Idx) :
    stepAt m c t.val t.isLt d y = (if t.val % 16 = 0 then argB2 m c (ix1 (y 1)) else d y) + termAt m c t y := by
  obtain ⟨r, o, rfl⟩ : ∃ (r : Fin 1024) (o : Fin 2048), y = ix2 r o := ⟨y 0, y 1, ix2_eta' y⟩
  unfold stepAt termAt
  rw [out_apply, coord1, blk4]
  refine congrArg₂ (· + ·) rfl (Finset.sum_congr rfl fun k _ => congrArg₂ (· * ·) ?_ (blk3 m c t o k (unitOf t k) rfl))
  rw [hid_apply, blk2 m c t k (unitOf t k) rfl]
  unfold Cert.Mlp.hidden
  refine congrArg _ (congrArg₂ (· + ·) (Finset.sum_congr rfl fun q _ => congrArg₂ (· * ·) (blk0 m c t r q _ rfl) (blk1 m c t k q _ rfl)) rfl)

/-- At the end of the hidden axis the output block holds the bias plus every point's term, which is the network of its tokens. -/
theorem out_sum (t : Fin cfg0.N) (ht : t.val % 16 = 15) (y : S1024x2048.Idx) :
    outN m c t.val t.isLt y = Cert.Mlp.mlp (rowX m c (tok t (y 0))) (argW1 m c) (argB1 m c) (argW2 m c) (argB2 m c) (y 1) := by
  rw [Pipeline.eq_sum_fin_of_reset_step_apply_of_flush (fun n h => outN m c n h) 16 (fun y => argB2 m c (ix1 (y 1))) (termAt m c)
    ?_ ?_ t ht y]
  · unfold Cert.Mlp.mlp
    rw [add_comm]
    refine congrArg₂ (· + ·) ?_ rfl
    unfold termAt
    refine Fin.sum_mul_add_congr fun s k hl => ?_
    have hs := s.isLt
    have hd : (16 * (t.val / 16) + s.val) / 16 = t.val / 16 := by omega
    have hm : (16 * (t.val / 16) + s.val) % 16 = s.val := by omega
    have e1 : ∀ h, tok ⟨16 * (t.val / 16) + s.val, h⟩ (y 0) = tok t (y 0) := fun h => Fin.ext (by simp only [tok, hd])
    have e2 : ∀ h, unitOf ⟨16 * (t.val / 16) + s.val, h⟩ k = ⟨s.val * 512 + k.val, hl⟩ := fun h => Fin.ext (by simp only [unitOf, hm]; omega)
    rw [e1, e2]
  · intro t h y
    show outN m c t.val t.isLt y = _
    rw [outN_start m c t.val t.isLt h (fun _ => (0 : EReal)), step_apply, if_pos h]
  · rintro ⟨n, hn⟩ h y
    cases n with
    | zero => exact absurd rfl h
    | succ n =>
      show stepAt m c (n + 1) hn (outN m c n _) y = _
      refine (step_apply m c ⟨n + 1, hn⟩ _ y).trans ?_
      rw [if_neg h]
      rfl

/-- The kernel's output array. -/
def outArr : S8192x2048.Idx → EReal := fun i =>
  Cert.Mlp.mlp (rowX m c (i 0)) (argW1 m c) (argB1 m c) (argW2 m c) (argB2 m c) (i 1)

/-- The launch leaves `outArr` in the output array. -/
theorem arr_out : (dats m 0 c).arrAt 5 cfg0.N = outArr m c := by
  refine (dats m 0 c).arrAt_eq_of_covers 5 (outArr m c) (by decide +kernel) fun t hf y => ?_
  blk_simp
  rw [aft5]
  obtain ⟨r, o, rfl⟩ : ∃ (r : Fin 1024) (o : Fin 2048), y = ix2 r o := ⟨y 0, y 1, ix2_eta' y⟩
  have e : ((cfg0.win 5).blk t).view.emb (ix2 r o) = ix2 (tok t r) o := by unfold tok; blk_ext [idx5 t]
  refine (out_sum m c t ((flush0_5 t).mp hf) (ix2 r o)).trans ?_
  rw [show (win0_5.blk t).view.emb (ix2 r o) = ix2 (tok t r) o from e]
  rfl

/-- The kernel's result. -/
def result : S4x2048x2048.Idx → EReal := fun i =>
  Cert.Mlp.mlp (fun q => argX m c (ix3 (i 0) (i 1) q)) (argW1 m c) (argB1 m c) (argW2 m c) (argB2 m c) (i 2)

theorem ix3_eta' (y : S4x2048x2048.Idx) : y = ix3 (y 0) (y 1) (y 2) := by
  funext a
  match a with
  | 0 => rfl
  | 1 => rfl
  | 2 => rfl

/-- The output array with its leading axis split in two is the result. -/
theorem result_read : shapeCast S4x2048x2048 (outArr m c) shapeCasts_S8192x2048_S4x2048x2048 = result m c := by
  funext y
  obtain ⟨a, s, o, rfl⟩ : ∃ (a : Fin 4) (s : Fin 2048) (o : Fin 2048), y = ix3 a s o := ⟨y 0, y 1, y 2, ix3_eta' y⟩
  unfold outArr result
  pointwise
  have e : rowX m c (⟨a.val * 2048 + s.val, by omega⟩ : Fin 8192) = fun q => argX m c (ix3 a s q) := by
    funext q
    unfold rowX
    have h1 : (a.val * 2048 + s.val) / 2048 = a.val := by omega
    have h2 : (a.val * 2048 + s.val) % 2048 = s.val := by omega
    exact congrArg (argX m c) (congrArg₂ (fun u v => ix3 u v q) (Fin.ext h1) (Fin.ext h2))
  exact congrArg (fun x => Cert.Mlp.mlp x (argW1 m c) (argB1 m c) (argW2 m c) (argB2 m c) o) e

/-- The reshape after the launch leaves the result. -/
theorem tail_v4 : Pipeline.afterTail₀ cfgs (dats m) 0 (V0 m) [hostOps1] c main_v4 = result m c := by
  rw [← result_read, ← arr_out]
  unfold Pipeline.afterTail₀
  simp only [hostOps1, List.flatten_cons, List.flatten_nil, List.append_nil, List.cons_append, List.nil_append]
  after_results
  exact congrArg (fun v => shapeCast S4x2048x2048 v shapeCasts_S8192x2048_S4x2048x2048)
    (Pipeline.withArrays_arr spec0 (by decide) c (V0 m c) (fun w => (dats m 0 c).arrAt w (cfgs 0).N) 5)

/-- The kernel's run ends with `result` in its result buffer. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v4) = result m c) :=
  (θ_run defs _ _).mono (fun _ h c => ((h.1 c).2 main_v4 (Pipeline.mem_restRefs_of main_v4 (by decide) (by decide))).trans (tail_v4 m c))
    (launch m ρ)

end Cert.KernelIdeal.Hand

end
-- ==== Proof.KernelWords.lean ====
module

public import proofs.«01_k».proof.Defs
public import proofs.«01_k».proof.Proof.KernelRun
public import proofs.«01_k».proof.Proof.Gen.Kernel
public import proofs.«01_k».proof.Proof.Gen.KernelIdeal.Frame

@[expose] public section

set_option maxRecDepth 16384

noncomputable section

namespace Cert.Kernel.Hand

open Idealize.ShloMosaic Idealize.SL.Sem

/-! The kernel differs from its ideal form in one constant alone, a literal there and a name here. Where a name means
its literal's word, the two are one program, so the ideal form's run at words is the kernel's. -/

/-- At words a named constant is its literal. -/
local instance wordNamed : Named Bits where
  named _ _ {φ} bits := FloatOps.ofBits φ bits

/-- The two bodies are one. -/
theorem body_eq : Cert.Kernel.cc0__mlp_body (F := Bits) = Cert.KernelIdeal.cc0__mlp_body (F := Bits) := by
  unfold Cert.Kernel.cc0__mlp_body Cert.KernelIdeal.cc0__mlp_body
  rfl

/-- The two body tables are one. -/
theorem defs0_eq : Cert.Kernel.defs₀ (F := Bits) = Cert.KernelIdeal.defs₀ (F := Bits) := by
  unfold Cert.Kernel.defs₀ Cert.KernelIdeal.defs₀
  refine congrArg (Defs.onTc (τ := Cert.Kernel.τ)) (funext fun x => funext fun a => ?_)
  match x, a with
  | ⟨0, _⟩, (t, s) =>
    show Cert.Kernel.cc0__mlp_body (F := Bits) _ _ _ _ _ _ _ _ _ _ _ _ _ = _
    rw [body_eq]
    rfl

/-- The two tables with their pipelines are one. -/
theorem defs_eq : Cert.Kernel.defs (F := Bits) = Cert.KernelIdeal.defs (F := Bits) := by
  unfold Cert.Kernel.defs Cert.KernelIdeal.defs
  rw [defs0_eq]
  rfl

/-- The two main functions are one. -/
theorem main_eq : Cert.Kernel.main (F := Bits) = Cert.KernelIdeal.main (F := Bits) := by
  unfold Cert.Kernel.main Cert.KernelIdeal.main
  rfl

/-- The kernel runs, its arguments end unchanged and every counter at zero. -/
theorem quiescent : Cert.quiescent_Kernel := by
  intro m ρ _
  rw [defs_eq, main_eq]
  exact Cert.KernelIdeal.Hand.frame_run m ρ

end Cert.Kernel.Hand

end
-- ==== Proof.RefTerm.lean ====
module

public import proofs.«01_k».proof.Proof.Gen.ReferenceIdeal.Run
public import Idealize.ShloMosaic.Lib.Pointwise.Tactic

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

/-- Tokens on one axis. -/
def flat (X : FVec Ideal S4x2048x2048 .f32) : FVec Ideal S8192x2048 .f32 :=
  shapeCast _ X shapeCasts_S4x2048x2048_S8192x2048

/-- The gate's logits. -/
def logits (x : FVec Ideal S8192x2048 .f32) (Wg : FVec Ideal S8x2048 .f32) : FVec Ideal S8192x8 .f32 :=
  Host.dotGeneral dot_S8192x2048_S2048x8_S8192x8_1_0_0_1_n_n none x (transpose S2048x8 [1, 0] Wg transposes_S8x2048_S2048x8_1_0)

/-- The two largest logits of each token and their experts. -/
def top (lg : FVec Ideal S8192x8 .f32) : (S8192x2.Idx → Ideal .f32) × (IVec S8192x2 32) :=
  Host.topK S8192x2 1 (FloatOps.cmpfTotal .gt) lg sliceFits_S8192x8_S8192x2

/-- The order of the slots by expert. -/
def order (tp : (S8192x2.Idx → Ideal .f32) × (IVec S8192x2 32)) : IVec S16384 32 :=
  (Host.sort2 S16384 0 comparator_i32_i32_d0 (shapeCast _ (tp.2) shapeCasts_S8192x2_S16384) (iotaInDim S16384 32 0)).2

/-- A slot number, a negative one taken from the end. -/
def wrapSlot (ord : IVec S16384 32) : IVec S16384 32 :=
  select (cmpi .slt ord (broadcastInDim S16384 ![] bcast_S_S16384 (constantI S_ 32 0#32))) (addi ord (broadcastInDim S16384 ![] bcast_S_S16384 (constantI S_ 32 16384#32))) ord

/-- The token of each slot in the sorted order. -/
def tokens (ow : IVec S16384 32) : IVec S16384 32 :=
  Host.gather gather_S16384_S16384x1_S16384_n_0_n_n_0_1_1 (shapeCast _ (broadcastInDim S8192x2 ![0] bcast_S8192_S8192x2_0 (iotaInDim S8192 32 0)) shapeCasts_S8192x2_S16384) (broadcastInDim S16384x1 ![0] bcast_S16384_S16384x1_0 ow)

/-- The token as a row index. -/
def tokIx (tk : IVec S16384 32) : IVec S16384x1 32 :=
  broadcastInDim S16384x1 ![0] bcast_S16384_S16384x1_0 (select (cmpi .slt tk (broadcastInDim S16384 ![] bcast_S_S16384 (constantI S_ 32 0#32))) (addi tk (broadcastInDim S16384 ![] bcast_S_S16384 (constantI S_ 32 8192#32))) tk)

/-- The gathered rows. -/
def rows (x : FVec Ideal S8192x2048 .f32) (ix : IVec S16384x1 32) : FVec Ideal S16384x2048 .f32 :=
  Host.gather gather_S8192x2048_S16384x1_S16384x2048_1_0_n_n_0_1_12048 x ix

/-- The hidden layer before its activation. -/
def hpre (rw : FVec Ideal S16384x2048 .f32) (W1 : FVec Ideal S8192x2048 .f32) (b1 : FVec Ideal S8192 .f32) : FVec Ideal S16384x8192 .f32 :=
  addf (Host.dotGeneral dot_S16384x2048_S2048x8192_S16384x8192_1_0_0_1_n_n none rw (transpose S2048x8192 [1, 0] W1 transposes_S8192x2048_S2048x8192_1_0)) (broadcastInDim S16384x8192 ![0, 1] bcast_S1x8192_S16384x8192_0_1 (broadcastInDim S1x8192 ![1] bcast_S8192_S1x8192_1 b1))

/-- The activation. -/
def act (hp : FVec Ideal S16384x8192 .f32) : FVec Ideal S16384x8192 .f32 :=
  mulf (mulf (broadcastInDim S16384x8192 ![] bcast_S_S16384x8192 (constant S_ .f32 0x3F000000#32)) hp) (addf (broadcastInDim S16384x8192 ![] bcast_S_S16384x8192 (constant S_ .f32 0x3F800000#32)) (Host.tanh (mulf (broadcastInDim S16384x8192 ![] bcast_S_S16384x8192 (id (Host.sqrt (Host.divf (constant S_ .f32 0x40000000#32) (mulf (constant S_ .f32 0x40800000#32) (Host.atan (constant S_ .f32 0x3F800000#32))))))) (addf hp (mulf (mulf (mulf (broadcastInDim S16384x8192 ![] bcast_S_S16384x8192 (constant S_ .f32 0x3D372713#32)) hp) hp) hp)))))

/-- The expert's output on the gathered rows. -/
def buf (ac : FVec Ideal S16384x8192 .f32) (W2 : FVec Ideal S2048x8192 .f32) (b2 : FVec Ideal S2048 .f32) : FVec Ideal S16384x2048 .f32 :=
  addf (Host.dotGeneral dot_S16384x8192_S8192x2048_S16384x2048_1_0_0_1_n_n none ac (transpose S8192x2048 [1, 0] W2 transposes_S2048x8192_S8192x2048_1_0)) (broadcastInDim S16384x2048 ![0, 1] bcast_S1x2048_S16384x2048_0_1 (broadcastInDim S1x2048 ![1] bcast_S2048_S1x2048_1 b2))

/-- The exponentials of the logits less their maximum. -/
def expo (tp : (S8192x2.Idx → Ideal .f32) × (IVec S8192x2 32)) : FVec Ideal S8192x2 .f32 :=
  Host.exp (subf (tp.1) (broadcastInDim S8192x2 ![0, 1] bcast_S8192x1_S8192x2_0_1 (broadcastInDim S8192x1 ![0] bcast_S8192_S8192x1_0 (maximumf (broadcastInDim S8192 ![] bcast_S_S8192 (constant S_ .f32 0xFF800000#32)) (Host.reduce FloatOps.maximumf (tp.1) (constant S_ .f32 0xFF800000#32) reducesTo_S8192x2_S8192_d1 h_S_)))))

/-- The softmax weights, a slot a row. -/
def weights (ex : FVec Ideal S8192x2 .f32) : FVec Ideal S16384x1 .f32 :=
  shapeCast _ (Host.divf ex (broadcastInDim S8192x2 ![0, 1] bcast_S8192x1_S8192x2_0_1 (broadcastInDim S8192x1 ![0] bcast_S8192_S8192x1_0 (Host.reduceAdd ex (constant S_ .f32 0x00000000#32) reducesTo_S8192x2_S8192_d1 h_S_)))) shapeCasts_S8192x2_S16384x1

/-- The weights in the sorted order. -/
def slotW (wt : FVec Ideal S16384x1 .f32) (ow : IVec S16384 32) : FVec Ideal S16384x1 .f32 :=
  Host.gather gather_S16384x1_S16384x1_S16384x1_1_0_n_n_0_1_11 wt (broadcastInDim S16384x1 ![0] bcast_S16384_S16384x1_0 ow)

/-- The weighted rows added at their tokens, in the result's shape. -/
def combine (ix : IVec S16384x1 32) (bf : FVec Ideal S16384x2048 .f32) (sw : FVec Ideal S16384x1 .f32) : FVec Ideal S4x2048x2048 .f32 :=
  shapeCast _ (Host.scatterAdd scatter_S8192x2048_S16384x1_S16384x2048_1_0_0_1 (broadcastInDim S8192x2048 ![] bcast_S_S8192x2048 (constant S_ .f32 0x00000000#32)) ix (mulf bf (broadcastInDim S16384x2048 ![0, 1] bcast_S16384x1_S16384x2048_0_1 sw))) shapeCasts_S8192x2048_S4x2048x2048

set_option maxRecDepth 16384 in
/-- The reference's result is these steps in order. -/
theorem res_eq (m : (ℓ : Loc nD τ sig) → Buf (Elt Ideal) ℓ) (c : Dev nD) :
    Cert.ReferenceIdeal.Value.res_main_v79 m c = combine (tokIx (tokens (wrapSlot (order (top (logits (flat (m ((c.tc : Thread nD τ).loc main_arg0))) (m ((c.tc : Thread nD τ).loc main_arg5)))))))) (buf (act (hpre (rows (flat (m ((c.tc : Thread nD τ).loc main_arg0))) (tokIx (tokens (wrapSlot (order (top (logits (flat (m ((c.tc : Thread nD τ).loc main_arg0))) (m ((c.tc : Thread nD τ).loc main_arg5))))))))) (m ((c.tc : Thread nD τ).loc main_arg1)) (m ((c.tc : Thread nD τ).loc main_arg2)))) (m ((c.tc : Thread nD τ).loc main_arg3)) (m ((c.tc : Thread nD τ).loc main_arg4))) (slotW (weights (expo (top (logits (flat (m ((c.tc : Thread nD τ).loc main_arg0))) (m ((c.tc : Thread nD τ).loc main_arg5)))))) (wrapSlot (order (top (logits (flat (m ((c.tc : Thread nD τ).loc main_arg0))) (m ((c.tc : Thread nD τ).loc main_arg5))))))) := by
  unfold Cert.ReferenceIdeal.Value.res_main_v79
  rfl

end Cert.ReferenceIdeal.Hand

end
-- ==== Proof.RefValue.lean ====
module

public import proofs.«01_k».proof.Proof.RefTerm
public import proofs.«01_k».proof.Proof.Spec
public import Idealize.ShloMosaic.Lib.Pointwise.Tactic
public import Idealize.ShloMosaic.Lib.Pipeline.ValueKit
public import Idealize.ShloMosaic.Lib.Routing.Ops
public import Idealize.ShloMosaic.Lib.SortFacts
public import Idealize.ShloMosaic.Lib.WordCmp
public import Idealize.ShloMosaic.Lib.Routing.OpsSearch
public import Idealize.ShloMosaic.Lib.Routing.OpsPair

@[expose] public section

noncomputable section

namespace Cert.ReferenceIdeal.Hand

open Cert.ReferenceIdeal Cert.ReferenceIdeal.Gen Idealize.ShloMosaic

/-- Which slot is sorted before which. -/
def slotBefore (tp : (S8192x2.Idx → Ideal .f32) × (IVec S8192x2 32)) (k k' : Fin 16384) : Bool :=
  comparator_i32_i32_d0 (shapeCast S16384 tp.2 shapeCasts_S8192x2_S16384 (ix1 k), iotaInDim S16384 32 0 (ix1 k))
    (shapeCast S16384 tp.2 shapeCasts_S8192x2_S16384 (ix1 k'), iotaInDim S16384 32 0 (ix1 k')) == 1#1

/-- The slot that the sort puts at a place. -/
def perm (tp : (S8192x2.Idx → Ideal .f32) × (IVec S8192x2 32)) : Fin 16384 → Fin 16384 := sortedFrom (slotBefore tp)

/-- The sort puts every slot at one place. -/
theorem perm_bijective (tp : (S8192x2.Idx → Ideal .f32) × (IVec S8192x2 32)) : Function.Bijective (perm tp) :=
  ⟨sortedFrom_injective _, sortedFrom_surjective _⟩

/-- The order at a place is the slot there. -/
theorem order_apply (tp : (S8192x2.Idx → Ideal .f32) × (IVec S8192x2 32)) (p : Fin 16384) :
    order tp (ix1 p) = BitVec.ofNat 32 (perm tp p).val := by
  have e : (fun k : Fin 16384 => Shape.Idx.along (ix1 p : S16384.Idx) (⟨0, Nat.one_pos⟩ : Fin S16384.rank) k) = fun k => ix1 k := by
    funext k a
    obtain rfl : a = ⟨0, Nat.one_pos⟩ := Subsingleton.elim _ _
    exact Function.update_self _ _ _
  unfold order Host.sort2
  rw [dif_pos (show 0 < S16384.rank from Nat.one_pos)]
  show (fun g : Fin 16384 → S16384.Idx => iotaInDim S16384 32 0 (g (sortedFrom (fun k k' =>
    comparator_i32_i32_d0 (shapeCast S16384 tp.2 shapeCasts_S8192x2_S16384 (g k), iotaInDim S16384 32 0 (g k))
      (shapeCast S16384 tp.2 shapeCasts_S8192x2_S16384 (g k'), iotaInDim S16384 32 0 (g k')) == 1#1) p)))
    (fun k : Fin 16384 => Shape.Idx.along (ix1 p : S16384.Idx) (⟨0, Nat.one_pos⟩ : Fin S16384.rank) k) = _
  rw [e]
  rfl

/-- A word of a small number is not negative. -/
theorem slt_zero (n : ℕ) (hn : n < 16384) : IntOp.cmpi .slt (BitVec.ofNat 32 n) 0#32 = 0#1 := by
  rw [WordCmp.cmpi_slt_zero, BitVec.toNat_ofNat, Nat.mod_eq_of_lt (by omega), decide_eq_false (by omega)]
  rfl

/-- A slot number is its own wrapped form. -/
theorem wrapSlot_apply (ord : IVec S16384 32) (p : Fin 16384) (n : ℕ) (hn : n < 16384) (h : ord (ix1 p) = BitVec.ofNat 32 n) :
    wrapSlot ord (ix1 p) = BitVec.ofNat 32 n := by
  unfold wrapSlot
  pointwise
  rw [h, slt_zero n hn]
  rfl

/-- The hidden layer before its activation, at an index. -/
theorem hpre_apply (rw : FVec Ideal S16384x2048 .f32) (W1 : FVec Ideal S8192x2048 .f32) (b1 : FVec Ideal S8192 .f32) (p : Fin 16384) (k : Fin 8192) :
    hpre rw W1 b1 (ix2 p k) = ∑ q : Fin 2048, rw (ix2 p q) * W1 (ix2 k q) + b1 (ix1 k) := by
  unfold hpre
  pointwise

/-- What the literals denote. -/
theorem two_f32 : Ideal.ofBits .f32 0x40000000#32 = ((2 : ℝ) : EReal) := by
  simp [Ideal.ofBits, Ideal.ieee, -EReal.coe_mul]; norm_num

theorem four_f32 : Ideal.ofBits .f32 0x40800000#32 = ((4 : ℝ) : EReal) := by
  simp [Ideal.ofBits, Ideal.ieee, -EReal.coe_mul]; norm_num

theorem negInf_f32 : Ideal.ofBits .f32 0xFF800000#32 = ⊥ := by
  simp [Ideal.ofBits, Ideal.ieee]

/-- The reference's √(2 / (4 · arctan 1)) is √(2/π). -/
theorem scale_eq : Ideal.sqrt (Ideal.div (Ideal.ofBits .f32 0x40000000#32) (Ideal.ofBits .f32 0x40800000#32 * Ideal.atan (Ideal.ofBits .f32 0x3F800000#32))) = Cert.Mlp.gScale := by
  have hpi := Real.pi_pos
  rw [two_f32, four_f32, Ideal.ofBits_one_f32, ← EReal.coe_one, Ideal.atan_coe, Real.arctan_one, ← EReal.coe_mul,
    show 4 * (Real.pi / 4) = Real.pi by ring, Ideal.div_coe hpi.ne', ← EReal.coe_mul, Ideal.sqrt_coe, if_neg (not_lt.2 (by positivity))]
  unfold Cert.Mlp.gScale
  rw [one_div]

/-- The activation at an index. -/
theorem act_apply (hp : FVec Ideal S16384x8192 .f32) (p : Fin 16384) (k : Fin 8192) :
    act hp (ix2 p k) = Cert.Mlp.gelu (hp (ix2 p k)) := by
  unfold act
  pointwise
  refine congrArg (fun u => Ideal.ofBits .f32 1056964608#32 * hp (ix2 p k) * (1 + Ideal.tanh (u * _))) ?_
  exact scale_eq

/-- The expert's output at an index. -/
theorem buf_apply (ac : FVec Ideal S16384x8192 .f32) (W2 : FVec Ideal S2048x8192 .f32) (b2 : FVec Ideal S2048 .f32) (p : Fin 16384) (o : Fin 2048) :
    buf ac W2 b2 (ix2 p o) = ∑ k : Fin 8192, ac (ix2 p k) * W2 (ix2 o k) + b2 (ix1 o) := by
  unfold buf
  pointwise

/-- The softmax weight of a slot. -/
theorem weights_apply (ex : FVec Ideal S8192x2 .f32) (p : Fin 16384) :
    weights ex (ix2 p 0) = Ideal.div (ex (ix2 ⟨p.val / 2, by omega⟩ ⟨p.val % 2, by omega⟩)) (ex (ix2 ⟨p.val / 2, by omega⟩ 0) + ex (ix2 ⟨p.val / 2, by omega⟩ 1)) := by
  unfold weights
  pointwise
  rw [Fin.sum_univ_two]

/-- The exponential of a logit less the larger of its token's two. -/
theorem expo_apply (tp : (S8192x2.Idx → Ideal .f32) × (IVec S8192x2 32)) (t : Fin 8192) (j : Fin 2) :
   expo tp (ix2 t j) = Ideal.exp (tp.1 (ix2 t j) - max (tp.1 (ix2 t 0)) (tp.1 (ix2 t 1))) := by
  unfold expo
  pointwise
  rw [negInf_f32, show (Finset.univ : Finset (Fin 2)) = {0, 1} from rfl, Finset.fold_insert (by decide), Finset.fold_singleton,
    max_eq_left (bot_le : (⊥ : EReal) ≤ tp.1 (ix2 t 1)), max_eq_right bot_le]

/-- A logit is the product of a token's row with an expert's gate row. -/
theorem logits_apply (x : FVec Ideal S8192x2048 .f32) (Wg : FVec Ideal S8x2048 .f32) (t : Fin 8192) (e : Fin 8) :
    logits x Wg (ix2 t e) = ∑ q : Fin 2048, x (ix2 t q) * Wg (ix2 e q) := by
  unfold logits
  pointwise

/-- The token of slot `n` is `n / 2`. -/
theorem tokens_apply (ow : IVec S16384 32) (p n : Fin 16384) (h : ow (ix1 p) = BitVec.ofNat 32 n.val) :
    tokens ow (ix1 p) = BitVec.ofNat 32 (n.val / 2) := by
  unfold tokens
  refine (Routing.take_ap _ rfl rfl rfl rfl _ _ p n.isLt (by omega) ?_).trans ?_
  · pointwise
    exact h
  · pointwise

/-- A token's row index is its number. -/
theorem tokIx_apply (tk : IVec S16384 32) (p : Fin 16384) (n : ℕ) (hn : n < 8192) (h : tk (ix1 p) = BitVec.ofNat 32 n) :
    tokIx tk (ix2 p 0) = BitVec.ofNat 32 n := by
  unfold tokIx
  pointwise
  rw [h, slt_zero n (by omega)]
  rfl

/-- A gathered row is its token's row. -/
theorem rows_apply (x : FVec Ideal S8192x2048 .f32) (ix : IVec S16384x1 32) (p : Fin 16384) (t : Fin 8192) (q : Fin 2048)
    (h : ix (ix2 p 0) = BitVec.ofNat 32 t.val) : rows x ix (ix2 p q) = x (ix2 t q) :=
  Routing.gather_row _ rfl rfl rfl rfl rfl x ix p q t h (by norm_num)

/-- A slot's weight in the sorted order. -/
theorem slotW_apply (wt : FVec Ideal S16384x1 .f32) (ow : IVec S16384 32) (p n : Fin 16384) (h : ow (ix1 p) = BitVec.ofNat 32 n.val) :
    slotW wt ow (ix2 p 0) = wt (ix2 n 0) := by
  unfold slotW
  refine Routing.gather_row _ rfl rfl rfl rfl rfl wt _ p 0 n ?_ (by norm_num)
  pointwise
  exact h

/-- A flat token's entry in the argument. -/
theorem flat_apply (X : FVec Ideal S4x2048x2048 .f32) (b : Fin 4) (s : Fin 2048) (q : Fin 2048) :
    flat X (ix2 ⟨b.val * 2048 + s.val, by omega⟩ q) = X (ix3 b s q) := by
  unfold flat
  pointwise

/-- An update of the scatter lands in its index word's row, in its own column. -/
theorem lands_iff (ix : IVec S16384x1 32) (p : Fin 16384) (o o' : Fin 2048) (t : Fin 8192) :
    scatter_S8192x2048_S16384x1_S16384x2048_1_0_0_1.resultIdx? (ix2 p o') ix = some (ix2 t o) ↔ (ix (ix2 p 0)).toInt = (t.val : Int) ∧ o' = o := by
  refine (Routing.resultIdx?_ix2 (R := 8192) (C := 2048) _ _ ix t o).trans ?_
  have h0 : scatter_S8192x2048_S16384x1_S16384x2048_1_0_0_1.start (ix2 p o') ix 0 = (ix (ix2 p 0)).toInt := by
    unfold ScatterDims.start
    rw [dif_pos (by decide)]
    refine congrArg (fun i => (ix i).toInt) (funext fun a => ?_)
    match a with
    | ⟨0, _⟩ => rfl
    | ⟨1, _⟩ => rfl
  have h1 : scatter_S8192x2048_S16384x1_S16384x2048_1_0_0_1.start (ix2 p o') ix 1 = 0 := by
    unfold ScatterDims.start
    rw [dif_neg (by decide)]
  have w0 : scatter_S8192x2048_S16384x1_S16384x2048_1_0_0_1.window (ix2 p o') 0 = 0 := by
    unfold ScatterDims.window
    rw [dif_neg (by decide)]
  have w1 : scatter_S8192x2048_S16384x1_S16384x2048_1_0_0_1.window (ix2 p o') 1 = o'.val := by
    unfold ScatterDims.window
    rw [dif_pos (by decide)]
    rfl
  rw [h0, h1, w0, w1, Fin.ext_iff]
  omega

/-- An entry of the top two logits is one of its row's logits. -/
theorem top_entry (lg : FVec Ideal S8192x8 .f32) (t : Fin 8192) (j : Fin 2) : ∃ e : Fin 8, (top lg).1 (ix2 t j) = lg (ix2 t e) := by
  have h : ∃ (i : S8192x8.Idx) (k : Fin 8), i = ix2 t ⟨j.val, by omega⟩ ∧ (top lg).1 (ix2 t j) = lg (Shape.Idx.along i (1 : Fin S8192x8.rank) k) := by
    refine ⟨_, _, ?_, rfl⟩
    funext a
    match a with
    | ⟨0, _⟩ => exact Fin.ext (Nat.zero_add _)
    | ⟨1, _⟩ => exact Fin.ext (Nat.zero_add _)
  obtain ⟨i, k, rfl, e⟩ := h
  refine ⟨k, e.trans (congrArg lg (funext fun a => ?_))⟩
  match a with
  | ⟨0, _⟩ => exact Function.update_of_ne (Fin.ne_of_val_ne (show (0 : ℕ) ≠ 1 by decide)) _ _
  | ⟨1, _⟩ => exact Function.update_self _ _ _

/-- The scattered sum at an entry: the products of the slots whose index word is its token. -/
theorem combine_apply (ix : IVec S16384x1 32) (bf : FVec Ideal S16384x2048 .f32) (sw : FVec Ideal S16384x1 .f32) (b : Fin 4) (s o : Fin 2048) :
    combine ix bf sw (ix3 b s o) = ∑ p : Fin 16384, if (ix (ix2 p 0)).toInt = ((b.val * 2048 + s.val : ℕ) : Int) then bf (ix2 p o) * sw (ix2 p 0) else 0 := by
  have hb : b.val * 2048 + s.val < 8192 := by omega
  unfold combine
  pointwise
  show Ideal.ofBits .f32 0x00000000#32 + ∑ j ∈ Finset.univ.filter (fun j => scatter_S8192x2048_S16384x1_S16384x2048_1_0_0_1.resultIdx? j ix = some (ix2 ⟨b.val * 2048 + s.val, hb⟩ o)), _ = _
  rw [Ideal.ofBits_zero_f32, zero_add, Finset.sum_filter]
  refine (sum_idx2 _).trans (Finset.sum_congr rfl fun p _ => ?_)
  by_cases hp : (ix (ix2 p 0)).toInt = ((b.val * 2048 + s.val : ℕ) : Int)
  · rw [if_pos hp, Finset.sum_eq_single o]
    · rw [if_pos ((lands_iff ix p o o ⟨_, hb⟩).2 ⟨hp, rfl⟩)]
      pointwise
    · intro o' _ ho
      rw [if_neg fun h => ho ((lands_iff ix p o o' ⟨_, hb⟩).1 h).2]
    · intro h; exact absurd (Finset.mem_univ _) h
  · rw [if_neg hp]
    exact Finset.sum_eq_zero fun o' _ => if_neg fun h => hp ((lands_iff ix p o o' ⟨_, hb⟩).1 h).1

end Cert.ReferenceIdeal.Hand

end
-- ==== Proof.RefCombined.lean ====
module

public import proofs.«01_k».proof.Proof.RefValue

@[expose] public section

noncomputable section

namespace Cert.ReferenceIdeal.Hand

open Cert.ReferenceIdeal Cert.ReferenceIdeal.Gen Idealize.ShloMosaic

/-- A sum of products of reals is a real. -/
theorem sum_mul_real {n : ℕ} (f g : Fin n → EReal) (hf : ∀ q, ∃ r : ℝ, f q = r) (hg : ∀ q, ∃ r : ℝ, g q = r) :
    ∃ r : ℝ, ∑ q, f q * g q = r := by
  refine Finset.sum_induction _ (fun x : EReal => ∃ r : ℝ, x = r) ?_ ⟨0, rfl⟩ fun q _ => ?_
  · rintro _ _ ⟨x, rfl⟩ ⟨y, rfl⟩
    exact ⟨x + y, (EReal.coe_add x y).symm⟩
  · obtain ⟨x, hx⟩ := hf q
    obtain ⟨y, hy⟩ := hg q
    exact ⟨x * y, by rw [hx, hy, EReal.coe_mul]⟩

/-- The two weights of a token are nonnegative reals whose sum is one. -/
theorem softmax_pair (a b : ℝ) : ∃ u v : ℝ, 0 ≤ u ∧ 0 ≤ v ∧ u + v = 1
    ∧ Ideal.div (Ideal.exp ((a : EReal) - max (a : EReal) b)) (Ideal.exp ((a : EReal) - max (a : EReal) b) + Ideal.exp ((b : EReal) - max (a : EReal) b)) = u
    ∧ Ideal.div (Ideal.exp ((b : EReal) - max (a : EReal) b)) (Ideal.exp ((a : EReal) - max (a : EReal) b) + Ideal.exp ((b : EReal) - max (a : EReal) b)) = v := by
  have hm : max (a : EReal) b = ((max a b : ℝ) : EReal) := (EReal.coe_strictMono.monotone.map_max).symm
  rw [hm, ← EReal.coe_sub, ← EReal.coe_sub, Ideal.exp_coe, Ideal.exp_coe, ← EReal.coe_add]
  have ha := Real.exp_pos (a - max a b)
  have hb := Real.exp_pos (b - max a b)
  have hs := add_pos ha hb
  rw [Ideal.div_coe hs.ne', Ideal.div_coe hs.ne', ← EReal.coe_mul, ← EReal.coe_mul]
  refine ⟨_, _, ?_, ?_, ?_, rfl, rfl⟩
  · positivity
  · positivity
  · field_simp

/-- The weights of a token's two slots, where every logit is a real: nonnegative reals whose sum is one. -/
theorem weights_pair (lg : FVec Ideal S8192x8 .f32) (hl : ∀ t e, ∃ r : ℝ, lg (ix2 t e) = r) (t : Fin 8192) :
    ∃ u v : ℝ, 0 ≤ u ∧ 0 ≤ v ∧ u + v = 1 ∧ weights (expo (top lg)) (ix2 ⟨2 * t.val, by omega⟩ 0) = u
      ∧ weights (expo (top lg)) (ix2 ⟨2 * t.val + 1, by omega⟩ 0) = v := by
  obtain ⟨e0, h0⟩ := top_entry lg t 0
  obtain ⟨e1, h1⟩ := top_entry lg t 1
  obtain ⟨a, ha⟩ := hl t e0
  obtain ⟨b, hb⟩ := hl t e1
  obtain ⟨u, v, hu, hv, huv, eu, ev⟩ := softmax_pair a b
  have q0 : (⟨(2 * t.val) / 2, by omega⟩ : Fin 8192) = t := Fin.ext (by show (2 * t.val) / 2 = t.val; omega)
  have q1 : (⟨(2 * t.val + 1) / 2, by omega⟩ : Fin 8192) = t := Fin.ext (by show (2 * t.val + 1) / 2 = t.val; omega)
  have r0 : (⟨(2 * t.val) % 2, by omega⟩ : Fin 2) = 0 := Fin.ext (by show (2 * t.val) % 2 = 0; omega)
  have r1 : (⟨(2 * t.val + 1) % 2, by omega⟩ : Fin 2) = 1 := Fin.ext (by show (2 * t.val + 1) % 2 = 1; omega)
  refine ⟨u, v, hu, hv, huv, ?_, ?_⟩
  · rw [weights_apply]
    simp only [q0, r0, expo_apply, h0, h1, ha, hb]
    exact eu
  · rw [weights_apply]
    simp only [q1, r1, expo_apply, h0, h1, ha, hb]
    exact ev

/-- The expert's output on a slot's row is the two-layer network of its token. -/
theorem buf_row (X : FVec Ideal S4x2048x2048 .f32) (W1 : FVec Ideal S8192x2048 .f32) (b1 : FVec Ideal S8192 .f32) (W2 : FVec Ideal S2048x8192 .f32)
    (b2 : FVec Ideal S2048 .f32) (ix : IVec S16384x1 32) (p : Fin 16384) (b : Fin 4) (s o : Fin 2048)
    (h : ix (ix2 p 0) = BitVec.ofNat 32 (b.val * 2048 + s.val)) :
    buf (act (hpre (rows (flat X) ix) W1 b1)) W2 b2 (ix2 p o) = Cert.Mlp.mlp (fun q => X (ix3 b s q)) W1 b1 W2 b2 o := by
  have e : ∀ k : Fin 8192, ∑ q : Fin 2048, rows (flat X) ix (ix2 p q) * W1 (ix2 k q) = ∑ q : Fin 2048, X (ix3 b s q) * W1 (ix2 k q) := fun k =>
    Finset.sum_congr rfl fun q _ => by rw [rows_apply (flat X) ix p ⟨b.val * 2048 + s.val, by omega⟩ q h, flat_apply]
  have e' : ∀ k : Fin 8192, act (hpre (rows (flat X) ix) W1 b1) (ix2 p k) = Cert.Mlp.hidden (fun q => X (ix3 b s q)) W1 b1 k := fun k => by
    rw [act_apply, hpre_apply, e k]
    rfl
  rw [buf_apply]
  simp only [e']
  rfl

/-- The sum over all slots of the terms of one token is the sum of its two slots' terms. -/
theorem sum_slots (f : Fin 16384 → EReal) (t : Fin 8192) :
    (∑ n : Fin 16384, if n.val / 2 = t.val then f n else 0) = f ⟨2 * t.val, by omega⟩ + f ⟨2 * t.val + 1, by omega⟩ := by
  rw [← Finset.sum_filter, ← Finset.sum_pair (f := f) (Fin.ne_of_val_ne (show 2 * t.val ≠ 2 * t.val + 1 by omega))]
  refine Finset.sum_congr (Finset.ext fun n => ?_) fun _ _ => rfl
  simp only [Finset.mem_filter, Finset.mem_univ, true_and, Finset.mem_insert, Finset.mem_singleton, Fin.ext_iff]
  omega

/-- The reference's result at an entry: the two-layer network of its token. -/
theorem combined (X : FVec Ideal S4x2048x2048 .f32) (W1 : FVec Ideal S8192x2048 .f32) (b1 : FVec Ideal S8192 .f32) (W2 : FVec Ideal S2048x8192 .f32)
    (b2 : FVec Ideal S2048 .f32) (Wg : FVec Ideal S8x2048 .f32) (hX : ∀ i, ∃ r : ℝ, X i = r) (hW : ∀ i, ∃ r : ℝ, Wg i = r)
    (b : Fin 4) (s o : Fin 2048) :
    combine (tokIx (tokens (wrapSlot (order (top (logits (flat X) Wg))))))
        (buf (act (hpre (rows (flat X) (tokIx (tokens (wrapSlot (order (top (logits (flat X) Wg))))))) W1 b1)) W2 b2)
        (slotW (weights (expo (top (logits (flat X) Wg)))) (wrapSlot (order (top (logits (flat X) Wg))))) (ix3 b s o)
      = Cert.Mlp.mlp (fun q => X (ix3 b s q)) W1 b1 W2 b2 o := by
  have hl : ∀ t e, ∃ r : ℝ, logits (flat X) Wg (ix2 t e) = r := fun t e => by
    rw [logits_apply]
    refine sum_mul_real _ _ (fun q => ?_) fun q => hW _
    unfold flat
    exact hX _
  generalize logits (flat X) Wg = lg at hl ⊢
  have how : ∀ p, wrapSlot (order (top lg)) (ix1 p) = BitVec.ofNat 32 (perm (top lg) p).val := fun p =>
    wrapSlot_apply _ p _ (perm (top lg) p).isLt (order_apply _ p)
  generalize wrapSlot (order (top lg)) = ow at how ⊢
  have hix : ∀ p, tokIx (tokens ow) (ix2 p 0) = BitVec.ofNat 32 ((perm (top lg) p).val / 2) := fun p =>
    tokIx_apply _ p _ (by have := (perm (top lg) p).isLt; omega) (tokens_apply ow p _ (how p))
  generalize tokIx (tokens ow) = ix at hix ⊢
  rw [combine_apply]
  have hterm : ∀ p : Fin 16384,
      (if (ix (ix2 p 0)).toInt = ((b.val * 2048 + s.val : ℕ) : Int) then
        buf (act (hpre (rows (flat X) ix) W1 b1)) W2 b2 (ix2 p o) * slotW (weights (expo (top lg))) ow (ix2 p 0) else 0)
      = (fun n : Fin 16384 => if n.val / 2 = b.val * 2048 + s.val then
          Cert.Mlp.mlp (fun q => X (ix3 b s q)) W1 b1 W2 b2 o * weights (expo (top lg)) (ix2 n 0) else 0) (perm (top lg) p) := fun p => by
    have hlt := (perm (top lg) p).isLt
    have hi : (ix (ix2 p 0)).toInt = (((perm (top lg) p).val / 2 : ℕ) : Int) := by
      rw [hix p, StableHlo.Predicate.toInt_ofNat_small _ (by omega)]
    show _ = if (perm (top lg) p).val / 2 = b.val * 2048 + s.val then _ else _
    by_cases h : (perm (top lg) p).val / 2 = b.val * 2048 + s.val
    · rw [if_pos h, if_pos (hi.trans (congrArg _ h)), buf_row X W1 b1 W2 b2 ix p b s o ((hix p).trans (congrArg _ h)), slotW_apply _ ow p _ (how p)]
    · rw [if_neg h, if_neg fun h' : (ix (ix2 p 0)).toInt = ((b.val * 2048 + s.val : ℕ) : Int) => h (Int.ofNat.inj (hi.symm.trans h'))]
  rw [Finset.sum_congr rfl fun p _ => hterm p, (perm_bijective (top lg)).sum_comp
    (fun n : Fin 16384 => if n.val / 2 = b.val * 2048 + s.val then
      Cert.Mlp.mlp (fun q => X (ix3 b s q)) W1 b1 W2 b2 o * weights (expo (top lg)) (ix2 n 0) else 0)]
  obtain ⟨u, v, hu, hv, huv, eu, ev⟩ := weights_pair lg hl ⟨b.val * 2048 + s.val, by omega⟩
  refine (sum_slots _ ⟨b.val * 2048 + s.val, by omega⟩).trans ?_
  rw [eu, ev, ← EReal.left_distrib_of_nonneg (EReal.coe_nonneg.2 hu) (EReal.coe_nonneg.2 hv), ← EReal.coe_add, huv, EReal.coe_one, mul_one]

/-- The reference's result array, of finite tokens and gate weights. -/
theorem res_value (m : (ℓ : Loc nD τ sig) → Buf (Elt Ideal) ℓ) (c : Dev nD)
    (X : FVec Ideal S4x2048x2048 .f32) (W1 : FVec Ideal S8192x2048 .f32) (b1 : FVec Ideal S8192 .f32) (W2 : FVec Ideal S2048x8192 .f32)
    (b2 : FVec Ideal S2048 .f32) (Wg : FVec Ideal S8x2048 .f32)
    (e0 : m ((c.tc : Thread nD τ).loc main_arg0) = X) (e1 : m ((c.tc : Thread nD τ).loc main_arg1) = W1)
    (e2 : m ((c.tc : Thread nD τ).loc main_arg2) = b1) (e3 : m ((c.tc : Thread nD τ).loc main_arg3) = W2)
    (e4 : m ((c.tc : Thread nD τ).loc main_arg4) = b2) (e5 : m ((c.tc : Thread nD τ).loc main_arg5) = Wg)
    (hX : ∀ i, ∃ r : ℝ, X i = r) (hW : ∀ i, ∃ r : ℝ, Wg i = r) :
    Value.res_main_v79 m c = fun i : S4x2048x2048.Idx => Cert.Mlp.mlp (fun q => X (ix3 (i 0) (i 1) q)) W1 b1 W2 b2 (i 2) := by
  rw [res_eq, e0, e1, e2, e3, e4, e5]
  funext i
  have hi : i = ix3 (i 0) (i 1) (i 2) := by
    funext a
    match a with
    | ⟨0, _⟩ => rfl
    | ⟨1, _⟩ => rfl
    | ⟨2, _⟩ => rfl
  exact (congrArg _ hi).trans (combined X W1 b1 W2 b2 Wg hX hW (i 0) (i 1) (i 2))

end Cert.ReferenceIdeal.Hand

end
-- ==== Proof.Finite.lean ====
module

public import proofs.«01_k».proof.Pre_finite
public import Idealize.ShloMosaic.PureOps.Ideal
public import Idealize.ShloMosaic.Lib.ReduceAll

@[expose] public section

noncomputable section

namespace Cert.Pre_finite.Hand

open Cert.Pre_finite Idealize.ShloMosaic

/-- The side conditions of the precondition's operations. -/
theorem facts : Cert.Pre_finite.Facts where
  bcast_S_S4x2048x2048 := by decide
  reducesTo_S4x2048x2048_S_d0_1_2 := by decide
  h_S_ := by decide
  bcast_S_S8x2048 := by decide
  reducesTo_S8x2048_S_d0_1 := by decide

/-- The word the precondition compares with is infinity. -/
theorem inf_f32 : Ideal.ofBits .f32 0x7F800000#32 = ⊤ := by
  simp [Ideal.ofBits, Ideal.ieee]

/-- A value whose absolute value is below infinity is a real. -/
theorem real_of_abs_lt (x : Ideal .f32) (h : FloatOps.cmpf .olt (FloatOps.hostAbsf x) (Ideal.ofBits .f32 0x7F800000#32) = 1#1) : ∃ r : ℝ, x = (r : EReal) := by
  rw [inf_f32] at h
  have hx : max x (-x) < ⊤ := by
    by_contra hn
    have e : BitVec.ofBool (decide (max x (-x) < (⊤ : EReal))) = 1#1 := h
    rw [decide_eq_false hn] at e
    exact absurd e (by decide)
  obtain ⟨h1, h2⟩ := max_lt_iff.1 hx
  refine ⟨EReal.toReal x, (EReal.coe_toReal h1.ne fun hb => ?_).symm⟩
  rw [hb, EReal.neg_bot] at h2
  exact lt_irrefl _ h2

/-- What the precondition says: every token entry and every gate weight is a real. -/
theorem reals [Cert.Pre_finite.Facts] (a0 : FVec Ideal S4x2048x2048 .f32) (a1 : FVec Ideal S8192x2048 .f32) (a2 : FVec Ideal S8192 .f32)
    (a3 : FVec Ideal S2048x8192 .f32) (a4 : FVec Ideal S2048 .f32) (a5 : FVec Ideal S8x2048 .f32)
    (h : Cert.Pre_finite.fn (F := Ideal) a0 a1 a2 a3 a4 a5 = fun _ => 1#1) :
    (∀ i, ∃ r : ℝ, a0 i = (r : EReal)) ∧ ∀ i, ∃ r : ℝ, a5 i = (r : EReal) := by
  haveI : Subsingleton S_.Idx := ⟨fun a b => funext fun k => k.elim0⟩
  have h0 := congrFun h (fun k => k.elim0)
  obtain ⟨hx, hw⟩ := IntOp.andi_eq_one.1 h0
  exact ⟨fun i => real_of_abs_lt _ (Host.reduce_andi_all _ _ _ _ _ hx i), fun i => real_of_abs_lt _ (Host.reduce_andi_all _ _ _ _ _ hw i)⟩

end Cert.Pre_finite.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.ReferenceIdeal.Run
public import proofs.«01_k».proof.Proof.KernelValue
public import proofs.«01_k».proof.Proof.KernelWords
public import proofs.«01_k».proof.Proof.RefCombined
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The precondition's side conditions. -/
instance preFacts : Cert.Pre_finite.Facts := Cert.Pre_finite.Hand.facts

/-- The ideal kernel runs, its arguments end unchanged and every counter at zero. -/
theorem kernel_quiescent : Cert.quiescent_KernelIdeal := fun m ρ _ => Cert.KernelIdeal.Hand.frame_run m ρ

theorem kernel_quiescent_finite : Cert.quiescent_KernelIdeal_pre_finite := fun m ρ _ => kernel_quiescent m ρ trivial

/-- The reference runs, its arguments end unchanged and every counter at zero. -/
theorem reference_quiescent : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

theorem reference_quiescent_finite : Cert.quiescent_ReferenceIdeal_pre_finite := fun m ρ _ => reference_quiescent m ρ trivial

/-- The kernel's rounded literal stands for √(2/π) at the ideal instance. -/
theorem preserved : Cert.preserves_Kernel_KernelIdeal := IdealRules.named_const.statement _ _ _ _ _ rfl

/-- Kernel and reference end with the same result: at every token, the two-layer network of its row. -/
theorem algebraic : Cert.algebraic_KernelIdeal_ReferenceIdeal_pre_finite := by
  intro m ρ m' ρ' hpre hag
  refine ⟨fun c => Cert.KernelIdeal.Hand.result m c, ?_, ?_⟩
  · exact (θ_run Cert.KernelIdeal.defs _ _).mono (fun r h c => ⟨h.1 c, h.2.1 c⟩)
      (θ_run_and (Cert.KernelIdeal.Hand.kernel_run m ρ) (kernel_quiescent m ρ trivial))
  · refine (θ_run Cert.ReferenceIdeal.defs _ _).mono (fun r h c => ⟨(h c).1.trans ?_, (h c).2⟩) (Cert.ReferenceIdeal.Value.run m' ρ')
    obtain ⟨e0, e1, e2, e3, e4, e5⟩ := hag c
    obtain ⟨hX, hW⟩ := Cert.Pre_finite.Hand.reals _ _ _ _ _ _ (hpre c)
    exact Cert.ReferenceIdeal.Hand.res_value m' c _ _ _ _ _ _ e0 e1 e2 e3 e4 e5 hX hW

theorem claim : Cert.Claim := ⟨Cert.Kernel.Gen.facts, Cert.KernelIdeal.Gen.facts, Cert.ReferenceIdeal.Gen.facts, preFacts,
  Cert.Kernel.Hand.quiescent, kernel_quiescent, kernel_quiescent_finite, reference_quiescent, reference_quiescent_finite,
  preserved, algebraic⟩

end Cert.Proof

end
